-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 1024]⟩ ⟨2, ![4096, 2048]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1, 1024]⟩ ⟨2, ![1, 2048]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1x1024 : Shape := ⟨2, ![1, 1024]⟩
abbrev S2x1x1024 : Shape := ⟨3, ![2, 1, 1024]⟩
abbrev S2 : Shape := ⟨1, ![2]⟩
abbrev S_ : Shape := ⟨0, ![]⟩
abbrev S1x512 : Shape := ⟨2, ![1, 512]⟩
abbrev S256x512 : Shape := ⟨2, ![256, 512]⟩
abbrev S512 : Shape := ⟨1, ![512]⟩
abbrev S1x1x512 : Shape := ⟨3, ![1, 1, 512]⟩
abbrev S1 : Shape := ⟨1, ![1]⟩
abbrev S1x1x1024 : Shape := ⟨3, ![1, 1, 1024]⟩

abbrev nBuf : Space → Nat
  | .hbm => 2
  | .vmem => 3
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .local _ .vmem, ⟨0, _⟩ => ⟨S2048x1024, .f32⟩
  | .local _ .vmem, ⟨1, _⟩ => ⟨S1x1024, .f32⟩
  | .local _ .vmem, ⟨2, _⟩ => ⟨S2x1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  (ofTc nBuf bufTy 1 6 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_4 : BitVec 32 := 2#32
  let v8 : BitVec 32 := Scalar.muli v6 c2_i32_4
  let v9 : BitVec 32 := Scalar.addi c0_i32 v8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v10 : BitVec 32 := Scalar.muli v5 c1_i32_5
  let v11 : BitVec 32 := Scalar.addi v9 v10
  v11.toNat
def k0_dev2 (d0 : Dev nD) : Nat :=
  let c0_i32_31 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_30 : BitVec 32 := 2#32
  let v56 : BitVec 32 := Scalar.muli v6 c2_i32_30
  let v57 : BitVec 32 := Scalar.addi c0_i32_31 v56
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_32 : BitVec 32 := 1#32
  let v58 : BitVec 32 := Scalar.muli v5 c1_i32_32
  let v59 : BitVec 32 := Scalar.addi v57 v58
  v59.toNat
def k0_dev3 (d0 : Dev nD) : Nat :=
  let c0_i32_70 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_69 : BitVec 32 := 2#32
  let v112 : BitVec 32 := Scalar.muli v6 c2_i32_69
  let v113 : BitVec 32 := Scalar.addi c0_i32_70 v112
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_71 : BitVec 32 := 1#32
  let v114 : BitVec 32 := Scalar.muli v5 c1_i32_71
  let v115 : BitVec 32 := Scalar.addi v113 v114
  v115.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x2048 : Shape := ⟨2, ![4096, 2048]⟩
abbrev S_ : Shape := ⟨0, ![]⟩
abbrev S2048 : Shape := ⟨1, ![2048]⟩
abbrev S1x2048 : Shape := ⟨2, ![1, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S_, .f32⟩
  | .hbm, ⟨2, _⟩ => ⟨S2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Views.lean ====
/-
# `01_k` — the kernel's buffers in pieces, and what they hold

The mean over rows is taken in two column halves. Each device sums its own 2048 rows of a half into slot 0 of its
2 × 1 × 1024 buffer, sends that half to slot 1 of the device that holds the other 2048 rows of the same columns (its
MATE), and at the end adds the two slots. The buffer is therefore handled in four PIECES: slot `s`, half `h`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Mean

open Cert.KernelIdeal Cert.KernelIdeal.Gen
open Idealize.ShloMosaic Idealize.ShloMosaic.TcCoe
open Idealize.SL Idealize.SL.Sem

variable {F : FTy → Type} [FloatOps F]

/-! ## The mate -/

/-- Devices are numbered row-major over the 2 × 2 mesh; the mate of `(i, j)` is `(1 - i, j)`. -/
def mate (c : Dev nD) : Dev nD := ⟨(c.val + 2) % 4, Nat.mod_lt _ (by decide)⟩

theorem mate_mate (c : Dev nD) : mate (mate c) = c := by revert c; decide

/-- The mate, as a permutation of the devices. -/
def mates : Dev nD ≃ Dev nD := ⟨mate, mate, mate_mate, mate_mate⟩

theorem eq_mate_comm {d c : Dev nD} : mate d = c ↔ d = mate c :=
  ⟨fun h => h ▸ (mate_mate d).symm, fun h => h ▸ mate_mate c⟩

/-- The device that the kernel signals is the mate, -/
theorem signalled (c : Dev nD) : (⟨k0_dev1 c, k0_dev1_lt c⟩ : Dev nD) = mate c := by revert c; decide
/-- and so are the devices its two transfers are addressed to. -/
theorem addressed0 (c : Dev nD) : (⟨k0_dev2 c, k0_dev2_lt c⟩ : Dev nD) = mate c := by revert c; decide
theorem addressed1 (c : Dev nD) : (⟨k0_dev3 c, k0_dev3_lt c⟩ : Dev nD) = mate c := by revert c; decide

/-! ## The pieces -/

abbrev xM : Memref sig .tc .vmem S2048x1024 .f32 := Memref.whole cc0_stg0_0
abbrev oM : Memref sig .tc .vmem S1x1024 .f32 := Memref.whole cc0_stg1_0
abbrev bM : Memref sig .tc .vmem S2x1x1024 .f32 := Memref.whole cc0_scratch0

theorem piece_inb (s h : Fin 2) : ∀ a, (![s.val, 0, 512 * h.val] : Fin 3 → ℕ) a + S1x1x512.size a ≤ S2x1x1024.size a := by
  revert s h; decide

/-- Slot `s`, half `h` of the buffer. -/
abbrev pieceR (s h : Fin 2) : Rect S2x1x1024 := Rect.unit (s := S2x1x1024) ![s.val, 0, 512 * h.val] S1x1x512.size (piece_inb s h)

/-- The piece as a transfer names it, its two axes of extent one merged. -/
abbrev pieceM (s h : Fin 2) : Memref sig .tc .vmem S1x512 .f32 :=
  (bM.slice (pieceR s h) (fun _ => rfl)).squeeze S1x512 squeezes_S1x1x512_S1x512

/-- An element lies in piece `(s, h)` when its slot is `s` and its column lies in half `h`. -/
theorem mem_piece {s h : Fin 2} {i : S2x1x1024.Idx} :
    i ∈ (pieceR s h).set ↔ (i 0).val = s.val ∧ (i 2).val / 512 = h.val := by
  have h0 : (i 0).val < 2 := (i 0).isLt
  have h1 : (i 1).val < 1 := (i 1).isLt
  have h2 : (i 2).val < 1024 := (i 2).isLt
  rw [Rect.mem_set_unit]
  constructor
  · intro H
    have H0 : s.val ≤ (i 0).val ∧ (i 0).val < s.val + 1 := H 0
    have H2 : 512 * h.val ≤ (i 2).val ∧ (i 2).val < 512 * h.val + 512 := H 2
    omega
  · rintro ⟨H0, H2⟩ a
    match a with
    | ⟨0, _⟩ => exact show s.val ≤ (i 0).val ∧ (i 0).val < s.val + 1 by omega
    | ⟨1, _⟩ => exact show 0 ≤ (i 1).val ∧ (i 1).val < 0 + 1 by omega
    | ⟨2, _⟩ => exact show 512 * h.val ≤ (i 2).val ∧ (i 2).val < 512 * h.val + 512 by omega

/-- The elements of a piece, whether a transfer or a store names it. -/
theorem pieceM_set (s h : Fin 2) : (pieceM s h).view.set = (pieceR s h).set :=
  (View.set_reshape _ _).trans (View.set_slice_whole _ _)
theorem store_set (s h : Fin 2) : (bM.access (pieceR s h)).setOn Finset.univ = (pieceR s h).set :=
  View.set_slice_whole _ _

/-- Slot `s` is its two halves, -/
abbrev slotSet (s : Fin 2) : Finset S2x1x1024.Idx := (pieceR s 0).set ∪ (pieceR s 1).set

theorem halves_disjoint (s : Fin 2) : Disjoint (pieceR s 0).set (pieceR s 1).set :=
  Finset.disjoint_left.mpr fun i h h' => by have := (mem_piece.mp h).2; have := (mem_piece.mp h').2; simp at *; omega

theorem slots_disjoint : Disjoint (slotSet 0) (slotSet 1) :=
  Finset.disjoint_left.mpr fun i h h' => by
    have e0 : (i 0).val = 0 := (Finset.mem_union.mp h).elim (fun q => (mem_piece.mp q).1) fun q => (mem_piece.mp q).1
    have e1 : (i 0).val = 1 := (Finset.mem_union.mp h').elim (fun q => (mem_piece.mp q).1) fun q => (mem_piece.mp q).1
    omega

/-- and the buffer is its two slots. -/
theorem slots_cover : slotSet 0 ∪ slotSet 1 = (Finset.univ : Finset S2x1x1024.Idx) := by
  ext i
  have h0 : (i 0).val < 2 := (i 0).isLt
  have h2 : (i 2).val < 1024 := (i 2).isLt
  simp only [slotSet, Finset.mem_union, mem_piece, Finset.mem_univ, iff_true, Fin.val_zero, Fin.val_one]
  omega

/-! ## What the buffer holds -/

abbrev XBlock (F : FTy → Type) : Type := (cc0_stg0_0 : Ref sig .tc).ty.Contents (Elt F)
abbrev Slots (F : FTy → Type) : Type := (cc0_scratch0 : Ref sig .tc).ty.Contents (Elt F)

theorem rows_inb (h : Fin 2) (k : Fin 8) : ∀ a, (![256 * k.val, 512 * h.val] : Fin 2 → ℕ) a + S256x512.size a ≤ S2048x1024.size a := by
  revert h k; decide

/-- Rows `256 k …` of half `h` of a device's block, as the kernel loads them. -/
abbrev rows (x : XBlock F) (h : Fin 2) (k : Fin 8) : Vec F S256x512 .f32 :=
  xM.view.readAt (Elt F) (Rect.unit (s := S2048x1024) ![256 * k.val, 512 * h.val] S256x512.size (rows_inb h k)).toLoadRect x

/-- The column sums of half `h`, accumulated over the eight groups of rows. -/
def colSums (x : XBlock F) (h : Fin 2) : FVec F S1x1x512 .f32 :=
  k0_pay3 (k0_pay2 (rows x h 0) (rows x h 1) (rows x h 2) (rows x h 3)) (rows x h 4) (rows x h 5) (rows x h 6) (rows x h 7)

/-- The second half's sums are printed in another grouping of the same operations. -/
theorem colSums_second (a0 a1 a2 a3 a4 a5 a6 a7 : Vec F S256x512 .f32) :
    k0_pay6 (k0_pay4 a0 a1 a2 a3 a4 a5) (k0_pay5 a6) a7 = k0_pay3 (k0_pay2 a0 a1 a2 a3) a4 a5 a6 a7 := rfl

/-- Column `q` of a half. -/
def col (q : ℕ) (hq : q < 512) : S1x1x512.Idx := fun
  | ⟨0, _⟩ => ⟨0, Nat.one_pos⟩
  | ⟨1, _⟩ => ⟨0, Nat.one_pos⟩
  | ⟨2, _⟩ => ⟨q, hq⟩

theorem col_eq (y : S1x1x512.Idx) {q : ℕ} {hq : q < 512} (e : q = (y 2).val) : col q hq = y := by
  subst e
  funext a
  match a with
  | ⟨0, _⟩ => exact Fin.ext (by have : (y 0).val < 1 := (y 0).isLt; show 0 = (y 0).val; omega)
  | ⟨1, _⟩ => exact Fin.ext (by have : (y 1).val < 1 := (y 1).isLt; show 0 = (y 1).val; omega)
  | ⟨2, _⟩ => rfl

/-- The buffer at the end, from the two devices' blocks: slot 0 holds the column sums of `own`, slot 1 those of `other`. -/
def slots (own other : XBlock F) : Slots F := fun i =>
  colSums (if (i 0).val = 0 then own else other) ⟨(i 2).val / 512, Nat.div_lt_of_lt_mul (show (i 2).val < 512 * 2 from (i 2).isLt)⟩
    (col ((i 2).val % 512) (Nat.mod_lt _ (by decide)))

/-- Element `y` of piece `(s, h)` of that buffer. -/
theorem slots_at (own other : XBlock F) (s h : Fin 2) (y : S1x1x512.Idx) :
    slots own other ((pieceR s h).emb y) = colSums (if s.val = 0 then own else other) h y := by
  have hy0 : (y 0).val < 1 := (y 0).isLt
  have hy : (y 2).val < 512 := (y 2).isLt
  have e0 : (((pieceR s h).emb y) 0).val = s.val := by
    show s.val + 1 * (y 0).val = s.val; omega
  have e2 : (((pieceR s h).emb y) 2).val = 512 * h.val + (y 2).val := by
    show 512 * h.val + 1 * (y 2).val = _; omega
  unfold slots
  simp only [e0]
  have eq2 : (⟨(((pieceR s h).emb y) 2).val / 512, Nat.div_lt_of_lt_mul (show (((pieceR s h).emb y) 2).val < 512 * 2 from (((pieceR s h).emb y) 2).isLt)⟩ : Fin 2) = h :=
    Fin.ext (by show (((pieceR s h).emb y) 2).val / 512 = h.val; rw [e2]; omega)
  rw [eq2]
  exact congrArg _ (col_eq y (by rw [e2]; omega))

/-- Storing a half's sums into slot 0 leaves that piece as `slots` has it. -/
theorem store_slots (own other : XBlock F) (h : Fin 2) (f : Slots F) :
    ∀ i ∈ (pieceR 0 h).set, (bM.access (pieceR 0 h)).write (Elt F) f (colSums own h) Finset.univ i = slots own other i := by
  intro i hi
  rw [← Rect.map_emb_univ] at hi
  obtain ⟨y, -, rfl⟩ := Finset.mem_map.mp hi
  rw [slots_at]
  exact View.write_emb_of_mem (v := bM.access (pieceR 0 h)) f (colSums own h) (Finset.mem_univ y)

/-- A half sent from slot 0 of the mate's buffer to slot 1 leaves that piece as `slots` has it. -/
theorem land_slots (own other : XBlock F) (h : Fin 2) (f : Slots F) :
    ∀ i ∈ (pieceM 1 h).view.set,
      (pieceM 1 h).view.write (Elt F) f ((pieceM 0 h).view.read (Elt F) (slots other own)) Finset.univ i = slots own other i := by
  intro i hi
  obtain ⟨z, -, rfl⟩ := Finset.mem_map.mp hi
  refine (View.write_emb_of_mem (v := (pieceM 1 h).view) f _ (Finset.mem_univ z)).trans ?_
  exact (slots_at other own 0 h (Shape.reshapeEquiv _ z)).trans (slots_at own other 1 h (Shape.reshapeEquiv _ z)).symm

end Cert.Mean

end
-- ==== Proof.Protocol.lean ====
/-
# `01_k` — the exchange: its semaphores, what each hands over, what each device owes

A device uses five semaphores, each for one event:

* the barrier, raised by the mate when the mate has entered the kernel: it hands over the mate's slot 1, in halves;
* for each half, a send semaphore, raised when the device's own transfer has read slot 0: it gives that piece back;
* for each half, a receive semaphore, raised when the mate's transfer has landed: it hands over that piece of slot 1.

Everything below is stated for all five at once: `none` names the barrier, `some (0, h)` the send and `some (1, h)` the
receive semaphore of half `h`; the two transfer semaphores `some (s, h)` hand over piece `(s, h)` of the device's buffer.
-/
module

public import proofs.«01_k».proof.Proof.Views

@[expose] public section

noncomputable section

namespace Cert.Mean

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Ghost state: the staging pipeline's and the exchange's. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev EX : Emb (UR sig nD τ) (MT nD τ sig Unit (Elt F) ℕ UU ℕ) := embR

/-! ## The semaphores -/

abbrev Event : Type := Option (Fin 2 × Fin 2)

abbrev barS : Sem sig := (SemArray.scalar (sig.barrier 0 rfl) : Sems sig S_).sem

theorem sems_inb (h : Fin 2) : ∀ a, (![h.val] : Fin 1 → ℕ) a + S1.size a ≤ S2.size a := by revert h; decide

/-- The semaphore of half `h` in the array of send (`s = 0`) or receive (`s = 1`) semaphores. -/
abbrev dsem (s h : Fin 2) : DmaSem sig :=
  (((if s = 0 then cc0_scratch1 else cc0_scratch2 : DmaSems sig S2).slice (Rect.unit (s := S2) ![h.val] S1.size (sems_inb h))).squeeze S_ squeezes_S1_S_).sem

/-- The semaphore of an event, -/
def ksem : Event → SemLoc sig
  | none => .reg barS
  | some (s, h) => .dma (dsem s h)

/-- on device `c`. -/
abbrev kcell (x : Dev nD × Event) : GSem nD τ sig := ((x.1 : Thread nD τ), ksem x.2)

/-- The event a semaphore stands for, if any. -/
def eventOf (σ : SemLoc sig) : Option Event :=
  [none, some (0, 0), some (0, 1), some (1, 0), some (1, 1)].find? fun k => decide (ksem k = σ)

theorem eventOf_ksem (k : Event) : eventOf (ksem k) = some k := by revert k; decide

theorem ksem_injective : Function.Injective ksem := fun k k' h =>
  Option.some.inj ((eventOf_ksem k).symm.trans ((congrArg eventOf h).trans (eventOf_ksem k')))

theorem kcell_injective : Function.Injective (kcell : Dev nD × Event → GSem nD τ sig) := fun x y h =>
  Prod.ext (congrArg (fun g : GSem nD τ sig => g.1.1) h) (ksem_injective (congrArg Prod.snd h))

/-- The units one transfer of half a slot adds. -/
def N : ℕ := (pieceM 1 0).view.dmaCredit
theorem N_pos : 0 < N := View.dmaCredit_pos _ (by decide)
theorem credit_piece (s h : Fin 2) : (pieceM s h).view.dmaCredit = N := rfl

/-- The units of an event. -/
def units : Event → ℕ
  | none => 1
  | some _ => N

theorem units_pos (k : Event) : 0 < units k := by
  cases k with
  | none => exact Nat.one_pos
  | some _ => exact N_pos

omit [FloatOps F] in
/-- A conjunction over the events, written out. -/
theorem bigSep_events (Φ : Event → sProp 𝕄) :
    bigSep Finset.univ Φ = iprop(Φ none ∗ Φ (some (0, 0)) ∗ Φ (some (0, 1)) ∗ Φ (some (1, 0)) ∗ Φ (some (1, 1))) :=
  bigSep_univ_eq_bigSepL [none, some (0, 0), some (0, 1), some (1, 0), some (1, 1)] (by decide) (by decide) Φ

/-! ## The schedule -/

/-- Piece `(s, h)` of device `c`'s buffer, with the contents of `f`. -/
def piece (c : Dev nD) (s h : Fin 2) (f : Slots F) : sProp 𝕄 :=
  ((c : Thread nD τ).loc cc0_scratch0) ↦[(pieceR s h).set]{fullShare} (f : Buf (Elt F) ((c : Thread nD τ).loc cc0_scratch0))

/-- A piece, as a transfer takes or leaves it. -/
theorem piece_eq (c : Dev nD) (s h : Fin 2) (f : Slots F) :
    piece c s h f = ((pieceM s h).view.loc (c : Thread nD τ) ↦[(pieceM s h).view.set]{fullShare} f : sProp 𝕄) := by
  rw [pieceM_set]; rfl

instance piece_storable (c : Dev nD) (s h : Fin 2) (f : Slots F) : BI.Storable (upEmb : UEmb _ 𝕄) (piece c s h f) := by
  unfold piece; infer_instance

/-- Contents that agree on a piece give the same piece. -/
theorem piece_congr (c : Dev nD) (s h : Fin 2) {f g : Slots F} (e : ∀ i ∈ (pieceR s h).set, f i = g i) :
    (piece c s h f : sProp 𝕄) = piece c s h g := pointsTo_congr e

/-- The whole buffer is its four pieces. -/
theorem pieces_eq (c : Dev nD) (f : Slots F) :
    (((c : Thread nD τ).loc cc0_scratch0) ↦{fullShare} (f : Buf (Elt F) ((c : Thread nD τ).loc cc0_scratch0)) : sProp 𝕄)
      ⊣⊢ iprop((piece c 0 0 f ∗ piece c 0 1 f) ∗ piece c 1 0 f ∗ piece c 1 1 f) := by
  have hs (s : Fin 2) := pointsTo_union (Ix := Unit) (Val := Elt F) (Name := ℕ) (U := UU) (Lvl := ℕ) (ℓ := ((c : Thread nD τ).loc cc0_scratch0))
    (q := fullShare) (f := f) (halves_disjoint s)
  have hw := pointsTo_union (Ix := Unit) (Val := Elt F) (Name := ℕ) (U := UU) (Lvl := ℕ) (ℓ := ((c : Thread nD τ).loc cc0_scratch0))
    (q := fullShare) (f := f) slots_disjoint
  rw [slots_cover] at hw
  exact ⟨hw.1.trans (BI.sep_mono (hs 0).1 (hs 1).1), (BI.sep_mono (hs 0).2 (hs 1).2).trans hw.2⟩

variable (X : Dev nD → XBlock F)

/-- What device `c`'s buffer holds at the end: its own column sums and its mate's. -/
abbrev bufAt (c : Dev nD) : Slots F := slots (X c) (X (mate c))

/-- What an event of device `c` hands to it. -/
def pay (c : Dev nD) : Event → sProp 𝕄
  | none => iprop((∃ f, piece (mate c) 1 0 f) ∗ ∃ f, piece (mate c) 1 1 f)
  | some (s, h) => piece c s h (bufAt X c)

instance pay_storable (c : Dev nD) (k : Event) : BI.Storable (upEmb : UEmb _ 𝕄) (pay X c k) := by
  rcases k with _ | ⟨s, h⟩ <;> unfold pay <;> infer_instance

/-- Each event happens once. -/
def sched : Rounds.Schedule (GSem nD τ sig) Unit 𝕄 where
  duties g r := if r = 0 ∧ g.1.2 = .tc ∧ (eventOf g.2).isSome = true then {()} else ∅
  unitless _ := False
  amount g _ _ := ((eventOf g.2).map units).getD 1
  payload g _ _ := match eventOf g.2 with
    | some k => pay X g.1.1 k
    | none => iprop(emp)
  amount_pos g _ _ _ := by
    cases eventOf g.2 with
    | none => exact Nat.one_pos
    | some k => exact units_pos k

instance sched_storable (g : GSem nD τ sig) (r : ℕ) (d : Unit) : BI.Storable (upEmb : UEmb _ 𝕄) ((sched X).payload g r d) := by
  unfold sched; dsimp only
  split <;> infer_instance

theorem sched_duties (x : Dev nD × Event) : (sched X).duties (kcell x) 0 = {()} :=
  if_pos ⟨rfl, rfl, by rw [eventOf_ksem]; rfl⟩

theorem sched_mem (x : Dev nD × Event) : () ∈ (sched X).duties (kcell x) 0 := by
  rw [sched_duties]; exact Finset.mem_singleton_self _

theorem sched_later (g : GSem nD τ sig) (r : ℕ) (hr : 0 + 1 ≤ r) : (sched X).duties g r = ∅ :=
  if_neg fun h => by have := h.1; omega

theorem sched_amount (x : Dev nD × Event) : (sched X).amount (kcell x) 0 () = units x.2 := by
  show ((eventOf (ksem x.2)).map units).getD 1 = _
  rw [eventOf_ksem]; rfl

theorem sched_expect (x : Dev nD × Event) : (sched X).expect (kcell x) 0 = units x.2 := by
  unfold Schedule.expect Schedule.amountOf
  rw [sched_duties, Finset.sum_singleton, sched_amount]

theorem sched_payload (x : Dev nD × Event) : (sched X).payload (kcell x) 0 () = pay X x.1 x.2 := by
  show (match eventOf (ksem x.2) with | some k => pay X x.1 k | none => iprop(emp)) = _
  rw [eventOf_ksem]

/-- All that is handed over at an event's semaphore. -/
theorem sched_rest (x : Dev nD × Event) :
    bigSep ((sched X).duties (kcell x) 0 \ ∅) (fun d => (sched X).payload (kcell x) 0 d) = pay X x.1 x.2 := by
  rw [Finset.sdiff_empty, sched_duties, bigSep_singleton, sched_payload]

/-! ## What a device owes, and in which order it may wait -/

/-- Device `c` raises its mate's barrier and, by its transfers, its mate's receive semaphores. What is still owed once the
    first half has been sent, -/
def owed₁ (c : Dev nD) : CellTallies nD τ sig Unit := tallyAt (kcell (mate c, some (1, 1))) () N
/-- once the barrier has been signalled, -/
def owed₀ (c : Dev nD) : CellTallies nD τ sig Unit := owed₁ c + tallyAt (kcell (mate c, some (1, 0))) () N
/-- and at the start. -/
def owedAll (c : Dev nD) : CellTallies nD τ sig Unit := owed₀ c + tallyAt (kcell (mate c, none)) () 1

/-- Waits are possible on TensorCores only. -/
def L (g : GSem nD τ sig) : Finset Unit := if g.1.2 = .tc then {()} else ∅

/-- Barriers come before receive semaphores, and everything else before both. -/
def rank : Event → ℕ
  | none => 1
  | some (s, _) => 2 * s.val
def lv (g : GSem nD τ sig) (_ : Unit) : ℕ := ((eventOf g.2).map rank).getD 0

theorem L_of_ne (g : GSem nD τ sig) (h : g.1.2 ≠ .tc) : L g = ∅ := if_neg h
theorem mem_L (c : Dev nD) (σ : SemLoc sig) (u : Unit) : u ∈ L ((c : Thread nD τ), σ) := by
  unfold L; rw [if_pos rfl]; exact Finset.mem_singleton_self _
theorem lv_kcell (x : Dev nD × Event) (u : Unit) : lv (kcell x) u = rank x.2 := by unfold lv; rw [eventOf_ksem]; rfl

theorem of_tally {g g' : GSem nD τ sig} {n : ℕ} {u : Unit} (h : 0 < (tallyAt g' () n : CellTallies nD τ sig Unit) g u) : g = g' := by
  rw [tallyAt_apply] at h
  by_contra hn
  rw [if_neg fun q => hn q.1] at h
  exact Nat.lt_irrefl 0 h

/-- The debts after the signal are on semaphores of rank 2; -/
theorem owed₀_on {c : Dev nD} {g : GSem nD τ sig} {u : Unit} (h : 0 < owed₀ c g u) : ∃ k, g = kcell (mate c, k) ∧ rank k = 2 := by
  unfold owed₀ owed₁ at h
  rw [Pi.add_apply, Finsupp.add_apply] at h
  rcases Nat.add_pos_iff_pos_or_pos.mp h with h | h
  · exact ⟨_, of_tally h, rfl⟩
  · exact ⟨_, of_tally h, rfl⟩

/-- all of them are on semaphores of rank 1 or 2. -/
theorem owedAll_on {c : Dev nD} {g : GSem nD τ sig} {u : Unit} (h : 0 < owedAll c g u) : ∃ k, g = kcell (mate c, k) ∧ 0 < rank k := by
  unfold owedAll at h
  rw [Pi.add_apply, Finsupp.add_apply] at h
  rcases Nat.add_pos_iff_pos_or_pos.mp h with h | h
  · obtain ⟨k, e, hk⟩ := owed₀_on h
    exact ⟨k, e, by omega⟩
  · exact ⟨_, of_tally h, Nat.one_pos⟩

omit [FloatOps F] in
/-- Waits on the staging semaphores are allowed whatever the device owes. -/
theorem may_stage (c : Dev nD) (q : DmaSem sig) (hq : eventOf (.dma q) = none) (O : CellTallies nD τ sig Unit) (hO : O = owedAll c ∨ O = 0) :
    (levAts L lv : sProp 𝕄) ⊢ MayWait (c : Thread nD τ) (.dma q) () O := by
  rcases hO with rfl | rfl
  · refine MayOwe.of_cut (L := L) (lev := lv) 0 (fun p hp => ?_) (fun g u hg => ?_) (fun p hp => ?_) (fun g u hg => ?_)
    · rw [Finset.mem_singleton.mp hp]; exact mem_L c _ _
    · obtain ⟨k, rfl, -⟩ := owedAll_on hg; exact mem_L _ _ _
    · rw [Finset.mem_singleton.mp hp]; unfold lv; rw [hq]; exact Nat.le_refl 0
    · obtain ⟨k, rfl, hk⟩ := owedAll_on hg; rw [lv_kcell]; exact hk
  · rw [MayWait_zero]; iintro -; iempintro

omit [FloatOps F] in
/-- The barrier may be waited for while both transfers are owed. -/
theorem may_barrier (c : Dev nD) : (levAts L lv : sProp 𝕄) ⊢ MayWait (c : Thread nD τ) (ksem none) () (owed₀ c) := by
  refine MayOwe.of_cut (L := L) (lev := lv) 1 (fun p hp => ?_) (fun g u hg => ?_) (fun p hp => ?_) (fun g u hg => ?_)
  · rw [Finset.mem_singleton.mp hp]; exact mem_L c _ _
  · obtain ⟨k, rfl, -⟩ := owed₀_on hg; exact mem_L _ _ _
  · rw [Finset.mem_singleton.mp hp]; exact Nat.le_of_eq (lv_kcell (c, none) _)
  · obtain ⟨k, rfl, hk⟩ := owed₀_on hg; rw [lv_kcell]; show 1 < rank k; omega

/-! ## What a device knows and holds of the exchange -/

variable (K : Dev nD × Event → ℕ)

/-- Common knowledge: every semaphore follows the schedule, and is in use. -/
def shared : sProp 𝕄 :=
  iprop((bigSep Finset.univ fun x : Dev nD × Event => cellInv EX (sched X) (K x) (kcell x)) ∗ bigSep Finset.univ fun x : Dev nD × Event => reached EX (kcell x) 0)

instance shared_persistent : BI.Persistent (shared X K) := by unfold shared; infer_instance

theorem shared_inv (x : Dev nD × Event) : shared X K ⊢ cellInv EX (sched X) (K x) (kcell x) := by
  unfold shared
  exact sep_elim_left.trans (bigSep_elim (Finset.mem_univ x))
theorem shared_reached (x : Dev nD × Event) : shared X K ⊢ reached EX (kcell x) 0 := by
  unfold shared
  exact sep_elim_right.trans (bigSep_elim (Finset.mem_univ x))

/-- The device whose event `k` device `c` brings about: its mate's barrier and receive events, its own send events. -/
def payee (c : Dev nD) : Event → Dev nD
  | some (0, _) => c
  | _ => mate c

/-- The right to bring about an event, and the place of its owner, who has not yet waited for it. -/
abbrev token (x : Dev nD × Event) : sProp 𝕄 := dutyTok EX (kcell x) 0 ()
abbrev place (x : Dev nD × Event) : sProp 𝕄 := atPos EX (kcell x) 0 ∅ 0

/-- What is device `c`'s alone. -/
def mine (c : Dev nD) : sProp 𝕄 :=
  iprop((bigSep Finset.univ fun k : Event => place (c, k)) ∗ bigSep Finset.univ fun k : Event => token (payee c k, k))

end Cert.Mean

end
-- ==== Proof.Steps.lean ====
/-
# `01_k` — the kernel's steps on its buffer and its semaphores

One statement for each KIND of step, for every half: filling half of slot 0, signalling the mate, waiting for the barrier,
sending a half, and waiting for a transfer. Offsets, devices and semaphores are taken as the kernel spells them, with an
equation to the name used here.
-/
module

public import proofs.«01_k».proof.Proof.Protocol

@[expose] public section

noncomputable section

namespace Cert.Mean

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (X : Dev nD → XBlock F) (K : Dev nD × Event → ℕ)
variable {α : Type} {Q : α → sProp (MT nD τ sig Unit (Elt F) ℕ UU ℕ)} {k : PUnit → Prog (TpuEff nD τ sig (Elt F) Λ₀ .tc) α}

/-- A program's run on device `c`. -/
abbrev runs (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- Piece `(s, h)` named by its offset. -/
abbrev atR (o : Fin 3 → ℕ) (ho : ∀ a, o a + S1x1x512.size a ≤ S2x1x1024.size a) : Rect S2x1x1024 :=
  Rect.unit (s := S2x1x1024) o S1x1x512.size ho
abbrev atM (o : Fin 3 → ℕ) (ho : ∀ a, o a + S1x1x512.size a ≤ S2x1x1024.size a) : Memref sig .tc .vmem S1x512 .f32 :=
  (bM.slice (atR o ho) (fun _ => rfl)).squeeze S1x512 squeezes_S1x1x512_S1x512

theorem load_set (s h : Fin 2) : (bM : Memref sig .tc .vmem S2x1x1024 .f32).view.setOn (pieceR s h).toLoadRect.set = (pieceR s h).set :=
  Finset.map_refl

/-- Reading a piece leaves it. -/
theorem load_piece (c : Dev nD) (s h : Fin 2) (f : Slots F) {o : Fin 3 → ℕ} {ho} (eo : o = ![s.val, 0, 512 * h.val])
    {hl : (bM : Memref sig .tc .vmem S2x1x1024 .f32).view.LoadsAt (atR o ho).toLoadRect}
    {k : Vec F S1x1x512 .f32 → Prog (TpuEff nD τ sig (Elt F) Λ₀ .tc) α} :
    piece c s h f ⊢ iprop((∀ v, piece c s h f -∗ runs c (k v) Q) -∗ runs c (.op (.load bM (atR o ho).toLoadRect hl) k) Q) := by
  subst eo
  unfold piece
  iintro H Hk
  iapply (wp_load 𝒱₀ (c : Thread nD τ) none Set.univ (m := bM) (S := (pieceR s h).set) (load_set s h).le) $$ H
  iintro H
  iapply Hk
  iexact H

/-- Storing a half's column sums fills that half of slot 0. -/
theorem fill (c : Dev nD) (h : Fin 2) (f : Slots F) {o : Fin 3 → ℕ} {ho} (eo : o = ![0, 0, 512 * h.val])
    {w : FVec F S1x1x512 .f32} (hw : w = colSums (X c) h) {hx hm} :
    piece c 0 h f ⊢ iprop((piece c 0 h (bufAt X c) -∗ runs c (k ⟨⟩) Q)
      -∗ runs c (.op (.store bM (atR o ho) w Finset.univ hx hm) k) Q) := by
  subst eo hw
  rw [← piece_congr c 0 h (store_slots (X c) (X (mate c)) h f)]
  unfold piece
  exact wp_store 𝒱₀ (c : Thread nD τ) none Set.univ (m := bM) (r := pieceR 0 h) (Mk := Finset.univ) (S := (pieceR 0 h).set)
    (store_set 0 h).le

/-- Signalling the mate's barrier hands it both halves of slot 1. -/
theorem signal_mate (c n : Dev nD) (hn : n = mate c) {σ : Sem sig} (hσ : σ = barS) {u : ℤ} (hu : u = ((1 : ℕ) : ℤ)) (f₀ f₁ : Slots F) (W : Waits sig Unit) :
    iprop(shared X K ∗ owes (c : Thread nD τ) (owedAll c) W ∗ token (payee c none, none) ∗ piece c 1 0 f₀ ∗ piece c 1 1 f₁)
      ⊢ iprop((owes (c : Thread nD τ) (owed₀ c) W -∗ runs c (k ⟨⟩) Q) -∗ runs c (.op (.semSignal (n : Thread nD τ) σ u) k) Q) := by
  subst hn hσ hu
  iintro ⟨#Hs, HO, Ht, H0, H1⟩
  iapply (Rounds.wp_signal 𝒱₀ EX (sched X) (c : Thread nD τ) none (dst := (mate c : Thread nD τ)) (κ := K (mate c, none)) (d := ())
    (sched_mem X (mate c, none)) (sched_amount X (mate c, none)) () (owed₀ c) rfl)
  isplitr; · iapply (shared_inv X K (mate c, none)); iexact Hs
  isplitl [HO]; · iexact HO
  isplitl [Ht]; · iexact Ht
  isplitl [H0 H1]
  · rw [show (sched X).payload ((mate c : Thread nD τ), .reg barS) 0 () = pay X (mate c) none from sched_payload X (mate c, none)]
    unfold pay
    rw [mate_mate]
    isplitl [H0]
    · iexists f₀; iexact H0
    · iexists f₁; iexact H1
  iapply (shared_reached X K (mate c, none)); iexact Hs

/-- Waiting for an event, when that is allowed: its owner gets what the event hands over, and the semaphore is done with. -/
theorem wait_event (c : Dev nD) (κ : Event) (O : CellTallies nD τ sig Unit) (W : Waits sig Unit)
    {w : TpuEff nD τ sig (Elt F) Λ₀ .tc PUnit} {u : ℕ} (hu : u = units κ)
    (hw : ∀ P : PUnit → sProp 𝕄, wpE (defs₀ (F := F)) 𝒱₀ (c : Thread nD τ) none Set.univ w P = waitSpec (c : Thread nD τ) Set.univ (ksem κ) u P) :
    iprop(shared X K ∗ MayWait (c : Thread nD τ) (ksem κ) () O ∗ cred (tallyAt (kcell (c, κ)) () (units κ)) ∗ owes (c : Thread nD τ) O W ∗ place (c, κ))
      ⊢ iprop((((∃ W', owes (c : Thread nD τ) O W') ∗ semVal (kcell (c, κ)) 0 ∗ pay X c κ) -∗ runs c (k ⟨⟩) Q) -∗ runs c (.op w k) Q) := by
  subst hu
  iintro ⟨#Hs, Hm, Hc, HO, Hp⟩ Hk
  iapply (Rounds.wp_wait_rest_token 𝒱₀ EX (sched X) (c : Thread nD τ) none (κ := K (c, κ)) hw (Set.mem_univ _) () (O := O) (W := W)
    (R := 0) (m := 0) (T := ∅) ((Nat.zero_add _).trans (sched_expect X (c, κ)).symm)) $$ [Hm Hc HO Hp]
  · isplitr; · iapply (shared_inv X K (c, κ)); iexact Hs
    isplitl [Hc]; · iexact Hc
    isplitl [HO]; · iexact HO
    isplitl [Hm]; · iexact Hm
    iexact Hp
  iintro ⟨HO, Hp, -, Hpay⟩
  ihave Hpay := (Entails.of_eq (sched_rest X (c, κ))) $$ Hpay
  imod (Rounds.cell_close EX (sched X) (Set.mem_univ (K (c, κ))) (fun q => q) (R := 0 + 1) (sched_later X (kcell (c, κ)))) $$ [Hp] with Hz
  · isplitr; · iapply (shared_inv X K (c, κ)); iexact Hs
    iexact Hp
  iapply Hk
  isplitl [HO]; · iexists _; iexact HO
  isplitl [Hz] <;> iassumption

/-- The barrier wait, the transfers still owed: the device may now write both halves of its mate's slot 1. -/
theorem wait_barrier (c : Dev nD) (W : Waits sig Unit) {σ : Sem sig} (hσ : σ = barS) {u : ℤ} (hu : u = ((1 : ℕ) : ℤ)) :
    iprop(shared X K ∗ levAts L lv ∗ cred (tallyAt (kcell (c, none)) () 1) ∗ owes (c : Thread nD τ) (owed₀ c) W ∗ place (c, none))
      ⊢ iprop((((∃ W', owes (c : Thread nD τ) (owed₀ c) W') ∗ semVal (kcell (c, none)) 0 ∗ (∃ f, piece (mate c) 1 0 f) ∗ ∃ f, piece (mate c) 1 1 f)
          -∗ runs c (k ⟨⟩) Q) -∗ runs c (.op (.semWait σ u) k) Q) := by
  subst hσ hu
  iintro ⟨#Hs, #Hl, Hc, HO, Hp⟩
  iapply (wait_event X K c none (owed₀ c) W rfl (wpE_semWait_eq 𝒱₀ (c : Thread nD τ) none Set.univ))
  isplitr; · iexact Hs
  isplitr; · iapply (may_barrier c); iexact Hl
  isplitl [Hc]; · iexact Hc
  isplitl [HO] <;> iassumption

/-- A wait for a transfer, nothing being owed: the device gets back the piece the transfer read or wrote. -/
theorem wait_transfer (c : Dev nD) (s h : Fin 2) (W : Waits sig Unit) {σ : DmaSem sig} (hσ : σ = dsem s h)
    {sp : Space} {s' : Shape} {e' : EltTy} {src : Memref sig .tc sp s' e'} {o : Fin 3 → ℕ} {ho} {hsrc hdst} :
    iprop(shared X K ∗ cred (tallyAt (kcell (c, some (s, h))) () N) ∗ owes (c : Thread nD τ) 0 W ∗ place (c, some (s, h)))
      ⊢ iprop((((∃ W', owes (c : Thread nD τ) 0 W') ∗ semVal (kcell (c, some (s, h))) 0 ∗ piece c s h (bufAt X c))
          -∗ runs c (k ⟨⟩) Q) -∗ runs c (.op (.waitDma2 σ src (atM o ho) hsrc hdst) k) Q) := by
  subst hσ
  iintro ⟨#Hs, Hc, HO, Hp⟩
  iapply (wait_event X K c (some (s, h)) 0 W (u := (atM o ho).view.dmaCredit) rfl (wpE_waitDma2_eq 𝒱₀ (c : Thread nD τ) none Set.univ))
  isplitr; · iexact Hs
  isplitr; · rw [MayWait_zero]; iempintro
  isplitl [Hc]; · iexact Hc
  isplitl [HO] <;> iassumption

/-- Sending half `h` of slot 0 to slot 1 of the mate. -/
theorem send_half (c n : Dev nD) (h : Fin 2) (hn : n = mate c) {σ₀ σ₁ : DmaSem sig} (h₀ : σ₀ = dsem 0 h) (h₁ : σ₁ = dsem 1 h)
    {o₀ o₁ : Fin 3 → ℕ} {q₀ q₁} (e₀ : o₀ = ![0, 0, 512 * h.val]) (e₁ : o₁ = ![1, 0, 512 * h.val])
    (O₀ O : CellTallies nD τ sig Unit) (hO : O₀ = O + tallyAt (kcell (mate c, some (1, h))) () N) (W : Waits sig Unit)
    {hsc : (atM o₁ q₁ : Memref sig (n : Thread nD τ).2.kind .vmem S1x512 .f32).view.ref.isScScratch = false} {hsrc : (atM o₀ q₀).view.WordExact} {hdst : (atM o₁ q₁).view.WordExact}
    {hsem : DmaTarget.Typed .vmem (.dma σ₁) (.remote (n : Thread nD τ) (atM o₁ q₁) (.dma σ₀) hsc)} :
    iprop(shared X K ∗ piece c 0 h (bufAt X c) ∗ (∃ f, piece (mate c) 1 h f) ∗ owes (c : Thread nD τ) O₀ W
        ∗ token (c, some (0, h)) ∗ token (mate c, some (1, h)))
      ⊢ iprop(((cred (tallyAt (kcell (c, some (0, h))) () N) ∗ owes (c : Thread nD τ) O W) -∗ runs c (k ⟨⟩) Q)
          -∗ runs c (.op (.enqueueDma (atM o₀ q₀) (.remote (n : Thread nD τ) (atM o₁ q₁) (.dma σ₀) hsc) (.dma σ₁) hsrc hdst hsem) k) Q) := by
  subst hn h₀ h₁ e₀ e₁
  iintro ⟨#Hs, H0, ⟨%f, H1⟩, HO, Ht0, Ht1⟩ Hk
  ihave H0 := (Entails.of_eq (piece_eq c 0 h (bufAt X c))) $$ H0
  ihave H1 := (Entails.of_eq (piece_eq (mate c) 1 h f)) $$ H1
  iapply (Rounds.wp_send_pointsTo 𝒱₀ EX (sched X) (c : Thread nD τ) none (κ₁ := K (c, some (0, h))) (κ₂ := K (mate c, some (1, h)))
    (c' := (mate c : Thread nD τ)) (src := pieceM 0 h) (dst := pieceM 1 h) (r₁ := 0) (r₂ := 0) (d₁ := ()) (d₂ := ()) (fd := f)
    (sched_mem X (c, some (0, h))) (sched_mem X (mate c, some (1, h))) () () N rfl
    (sched_amount X (c, some (0, h))) (sched_amount X (mate c, some (1, h))) O hO (W := W)
    (by rw [← piece_eq]; exact Entails.of_eq (sched_payload X (c, some (0, h))).symm)
    (by
      refine (Entails.of_eq ?_).trans (Entails.of_eq (sched_payload X (mate c, some (1, h))).symm)
      show _ = piece (mate c) 1 h (bufAt X (mate c))
      rw [piece_eq]
      refine pointsTo_congr fun i hi => ?_
      have := land_slots (X (mate c)) (X (mate (mate c))) h f i hi
      rw [mate_mate] at this
      exact this.trans (by rw [bufAt, mate_mate]))) $$ [H0 H1 HO Ht0 Ht1]
  · isplitr; · iapply (shared_inv X K (c, some (0, h))); iexact Hs
    isplitr; · iapply (shared_inv X K (mate c, some (1, h))); iexact Hs
    isplitl [H0]; · iexact H0
    isplitl [H1]; · iexact H1
    isplitl [HO]; · iexact HO
    isplitl [Ht0]; · iexact Ht0
    isplitr; · iapply (shared_reached X K (c, some (0, h))); iexact Hs
    isplitl [Ht1]; · iexact Ht1
    iapply (shared_reached X K (mate c, some (1, h))); iexact Hs
  iexact Hk

end Cert.Mean

end
-- ==== Proof.Body.lean ====
/-
# `01_k` — the kernel's body on one device

From the device's share of the exchange, its block and its buffer at any contents, the body runs to its end: the result is
`outAt`, the buffer is `bufAt`, nothing is owed, and every semaphore is at zero.
-/
module

public import proofs.«01_k».proof.Proof.Steps

@[expose] public section

noncomputable section

namespace Cert.Mean

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev OBlock (F : FTy → Type) : Type := (cc0_stg1_0 : Ref sig .tc).ty.Contents (Elt F)

theorem slot_inb (s : Fin 2) : ∀ a, (![s.val, 0, 0] : Fin 3 → ℕ) a + S1x1x1024.size a ≤ S2x1x1024.size a := by revert s; decide

/-- A whole slot of the buffer, as the kernel loads it. -/
abbrev slot (f : Slots F) (s : Fin 2) : Vec F S1x1x1024 .f32 :=
  bM.view.readAt (Elt F) (Rect.unit (s := S2x1x1024) ![s.val, 0, 0] S1x1x1024.size (slot_inb s)).toLoadRect f

variable (X : Dev nD → XBlock F) (K : Dev nD × Event → ℕ)

/-- The kernel's result on device `c`: the two slots added and divided by the number of rows. -/
def outAt (c : Dev nD) : OBlock F := k0_pay1 (slot (bufAt X c) 0) (slot (bufAt X c) 1)

/-- The output, the block and the buffer, each whole. -/
abbrev xPts (c : Dev nD) (x : XBlock F) : sProp 𝕄 :=
  ((c : Thread nD τ).loc cc0_stg0_0) ↦{fullShare} (x : Buf (Elt F) ((c : Thread nD τ).loc cc0_stg0_0))
abbrev oPts (c : Dev nD) (y : OBlock F) : sProp 𝕄 :=
  ((c : Thread nD τ).loc cc0_stg1_0) ↦{fullShare} (y : Buf (Elt F) ((c : Thread nD τ).loc cc0_stg1_0))
abbrev bPts (c : Dev nD) (f : Slots F) : sProp 𝕄 :=
  ((c : Thread nD τ).loc cc0_scratch0) ↦{fullShare} (f : Buf (Elt F) ((c : Thread nD τ).loc cc0_scratch0))

theorem zeros : (![0, 0] : Fin 2 → ℕ) = fun _ => 0 := by
  funext a
  match a with
  | ⟨0, _⟩ => rfl
  | ⟨1, _⟩ => rfl

/-- The store of the result overwrites the whole output. -/
theorem store_out (f w : OBlock F) :
    ((oM : Memref sig .tc .vmem S1x1024 .f32).access (Rect.unit (s := S1x1024) ![0, 0] S1x1024.size inb_S1x1024_S1x1024_0_0)).write (Elt F) f w Finset.univ = w :=
  Memref.write_access_unit_zero_univ (Elt F) cc0_stg1_0 zeros _ f w

/-- What the body starts from, besides the block and the output. -/
def ready (c : Dev nD) : sProp 𝕄 :=
  iprop((∃ K, shared X K ∗ mine c)
    ∗ (cred (tallyAt (kcell (c, none)) () 1) ∗ cred (tallyAt (kcell (c, some (1, 0))) () N) ∗ cred (tallyAt (kcell (c, some (1, 1))) () N))
    ∗ levAts L lv)

/-- What it leaves. -/
def finished (c : Dev nD) : sProp 𝕄 :=
  iprop(bPts c (bufAt X c) ∗ bigSep Finset.univ fun k : Event => semVal (kcell (c, k)) 0)

set_option maxHeartbeats 1600000 in
/-- The body, run step by step in program order. -/
theorem body_runs (c : Dev nD) (f : Slots F) (g : OBlock F) (W : Waits sig Unit) (Q : PUnit → sProp 𝕄) :
    iprop(ready X c ∗ bPts c f ∗ owes (c : Thread nD τ) (owedAll c) W ∗ xPts c (X c) ∗ oPts c g)
      ⊢ iprop((finished X c ∗ (∃ W', owes (c : Thread nD τ) 0 W') ∗ xPts c (X c) ∗ oPts c (outAt X c) -∗ Q ⟨⟩)
        -∗ runs c (cc0_body (Memref.whole cc0_stg0_0) (Memref.isWhole_whole _) (Memref.whole cc0_stg1_0) (Memref.isWhole_whole _)
            (Memref.whole cc0_scratch0) (Memref.isWhole_whole _) cc0_scratch1 cc0_scratch2) Q) := by
  rw [cc0_body_eq_skeleton]
  unfold cc0_body_skel
  simp only [k0_part1_eq_skeleton, k0_part2_eq_skeleton, k0_part3_eq_skeleton, k0_part4_eq_skeleton, k0_part5_eq_skeleton]
  unfold k0_part1_skel k0_part2_skel k0_part3_skel k0_part4_skel k0_part5_skel runs
  simp only [semSignalWord, semWaitWord, Prog.lift, Prog.bind_op, Prog.bind_ret, Prog.pure_eq_ret, wp_deviceId]
  unfold ready mine
  simp only [bigSep_events]
  iintro ⟨⟨⟨%K, #Hs, ⟨Pb, Ps0, Ps1, Pr0, Pr1⟩, ⟨Tb, Ts0, Ts1, Tr0, Tr1⟩⟩, ⟨Cb, Cr0, Cr1⟩, #Hl⟩, Hb, HO, Hx, Ho⟩ Hk
  ihave Hb := (pieces_eq c f).1 $$ Hb
  icases Hb with ⟨⟨B00, B01⟩, B10, B11⟩
  -- the mate gets slot 1
  iapply (signal_mate X K c _ (signalled c) rfl (by decide) f f W) $$ [HO Tb B10 B11]
  · isplitr; · iexact Hs
    isplitl [HO]; · iexact HO
    isplitl [Tb]; · iexact Tb
    isplitl [B10] <;> iassumption
  iintro HO
  -- the first half's sums
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (load_piece c 0 0 f rfl) $$ B00; iintro %v B00
  iapply (fill X c 0 f rfl rfl) $$ B00; iintro B00
  -- the mate has entered
  iapply (wait_barrier X K c W rfl (by decide)) $$ [Cb HO Pb]
  · isplitr; · iexact Hs
    isplitr; · iexact Hl
    isplitl [Cb]; · iexact Cb
    isplitl [HO] <;> iassumption
  iintro ⟨⟨%W₁, HO⟩, Zb, M0, M1⟩
  -- the first half goes
  iapply (send_half X K c _ 0 (addressed0 c) rfl rfl rfl rfl (owed₀ c) (owed₁ c) rfl W₁) $$ [B00 M0 HO Ts0 Tr0]
  · isplitr; · iexact Hs
    isplitl [B00]; · iexact B00
    isplitl [M0]; · iexact M0
    isplitl [HO]; · iexact HO
    isplitl [Ts0]; · iexact Ts0
    iexact Tr0
  iintro ⟨Cs0, HO⟩
  -- the second half's sums
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  iapply (load_piece c 0 1 f rfl) $$ B01; iintro %v' B01
  iapply (fill X c 1 f rfl (colSums_second _ _ _ _ _ _ _ _)) $$ B01; iintro B01
  -- the second half goes
  iapply (send_half X K c _ 1 (addressed1 c) rfl rfl rfl rfl (owed₁ c) 0 (zero_add _).symm W₁) $$ [B01 M1 HO Ts1 Tr1]
  · isplitr; · iexact Hs
    isplitl [B01]; · iexact B01
    isplitl [M1]; · iexact M1
    isplitl [HO]; · iexact HO
    isplitl [Ts1]; · iexact Ts1
    iexact Tr1
  iintro ⟨Cs1, HO⟩
  -- the four waits
  iapply (wait_transfer X K c 0 0 W₁ rfl) $$ [Cs0 HO Ps0]
  · isplitr; · iexact Hs
    isplitl [Cs0]; · iexact Cs0
    isplitl [HO] <;> iassumption
  iintro ⟨⟨%V1, HO⟩, Z00, B00⟩
  iapply (wait_transfer X K c 1 0 V1 rfl) $$ [Cr0 HO Pr0]
  · isplitr; · iexact Hs
    isplitl [Cr0]; · iexact Cr0
    isplitl [HO] <;> iassumption
  iintro ⟨⟨%V2, HO⟩, Z10, B10⟩
  iapply (wait_transfer X K c 0 1 V2 rfl) $$ [Cs1 HO Ps1]
  · isplitr; · iexact Hs
    isplitl [Cs1]; · iexact Cs1
    isplitl [HO] <;> iassumption
  iintro ⟨⟨%V3, HO⟩, Z01, B01⟩
  iapply (wait_transfer X K c 1 1 V3 rfl) $$ [Cr1 HO Pr1]
  · isplitr; · iexact Hs
    isplitl [Cr1]; · iexact Cr1
    isplitl [HO] <;> iassumption
  iintro ⟨⟨%V4, HO⟩, Z11, B11⟩
  -- the buffer is whole again
  ihave Hb := (pieces_eq c (bufAt X c)).2 $$ [B00 B01 B10 B11]
  · isplitl [B00 B01]
    · isplitl [B00] <;> iassumption
    isplitl [B10] <;> iassumption
  iapply (wp_load 𝒱₀ (c : Thread nD τ) none Set.univ (m := bM) (Finset.subset_univ _)) $$ Hb; iintro Hb
  iapply (wp_load 𝒱₀ (c : Thread nD τ) none Set.univ (m := bM) (Finset.subset_univ _)) $$ Hb; iintro Hb
  iapply (wp_load 𝒱₀ (c : Thread nD τ) none Set.univ (m := oM) (Finset.subset_univ _)) $$ Ho; iintro Ho
  iapply (wp_store 𝒱₀ (c : Thread nD τ) none Set.univ (m := oM) (r := Rect.unit (s := S1x1024) ![0, 0] S1x1024.size inb_S1x1024_S1x1024_0_0)
    (Mk := Finset.univ) (Finset.subset_univ _)) $$ Ho; iintro Ho
  rw [store_out, wp_ret]
  imodintro
  iapply Hk
  unfold finished
  rw [bigSep_events]
  isplitl [Hb Zb Z00 Z01 Z10 Z11]
  · isplitl [Hb]; · iexact Hb
    isplitl [Zb]; · iexact Zb
    isplitl [Z00]; · iexact Z00
    isplitl [Z01]; · iexact Z01
    isplitl [Z10] <;> iassumption
  isplitl [HO]; · iexists _; iexact HO
  isplitl [Hx]; · iexact Hx
  iexact Ho

end Cert.Mean

end
-- ==== Proof.Launch.lean ====
/-
# `01_k` — the kernel's run on the mesh

The body of every device, put together: the exchange is set up for all devices at once (each gets the rights to bring about
its mate's events), every device runs, and the run ends with every result at `outAt`, every input unchanged and every
semaphore at zero. It is proved once, for any float values.
-/
module

public import proofs.«01_k».proof.Proof.Body
public import Idealize.ShloMosaic.Lib.Pipeline.CollectiveSegs

@[expose] public section

noncomputable section

namespace Cert.Mean

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The body, as the staging pipeline asks for it -/

section Launch

variable (m : (ℓ : Loc nD τ sig) → Buf (Elt F) ℓ) (ρ : Dev nD → PrngReg)

def s₀ : MemSt nD τ sig (Elt F) := ⟨m, fun _ => 0, ρ⟩

/-- Device `c`'s block, staged. -/
def block (c : Dev nD) : XBlock F := (win0_0.blk (0 : Fin 1)).view.read (Elt F) ((s₀ m ρ).mem ((c : Thread nD τ).loc main_arg0))

/-- The buffer and the exchange, before and after the body. -/
def before (c : Dev nD) : sProp 𝕄 := iprop(ready (block m ρ) c ∗ ∃ f, bPts c f)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => block m ρ c
    | ⟨1, _⟩ => outAt (block m ρ) c
  Φ t := match t with
    | ⟨0, _⟩ => before m ρ c
    | ⟨_ + 1, _⟩ => finished (block m ρ) c
  q _ := fullShare
  owed t := match t with
    | ⟨0, _⟩ => owedAll c
    | ⟨_ + 1, _⟩ => 0

omit [FloatOps F] in
/-- A whole staging buffer owned at given contents. -/
theorem whole_owns (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) ((c : Thread nD τ).loc b), ⌜f = Y⌝ ∗ (((c : Thread nD τ).loc b) ↦{fullShare} f)) := by
  unfold owns
  simp only [Memref.view_whole, View.read_whole, View.set_whole]

/-- The staged input is the device's block. -/
theorem staged (c : Dev nD) (d) : (dats m ρ 0 c).before (0 : Fin 2) t0_0 d = block m ρ c := by
  unfold Dat.before
  rw [if_pos (by rfl)]
  rfl

abbrev held (c : Dev nD) (b : Ref sig .tc) (Y : b.ty.Contents (Elt F)) : sProp 𝕄 :=
  iprop(∃ f : Buf (Elt F) ((c : Thread nD τ).loc b), ⌜f = Y⌝ ∗ (((c : Thread nD τ).loc b) ↦{fullShare} f))

def atEntry (c : Dev nD) : sProp 𝕄 :=
  iprop(before m ρ c ∗ (dats m ρ 0 c).owesAt () t0_0.castSucc
    ∗ (∃ d, held c cc0_stg0_0 ((dats m ρ 0 c).before (0 : Fin 2) t0_0 d)) ∗ (∃ d, held c cc0_stg1_0 ((dats m ρ 0 c).before (1 : Fin 2) t0_0 d)))

def atExit (c : Dev nD) : sProp 𝕄 :=
  iprop(finished (block m ρ) c ∗ (dats m ρ 0 c).owesAt () t0_0.succ ∗ held c cc0_stg0_0 (block m ρ c) ∗ held c cc0_stg1_0 (outAt (block m ρ) c))

theorem body_from_entry (c : Dev nD) :
    atEntry m ρ c ⊢ runs c (cc0_body (Memref.whole cc0_stg0_0) (Memref.isWhole_whole _) (Memref.whole cc0_stg1_0) (Memref.isWhole_whole _)
      (Memref.whole cc0_scratch0) (Memref.isWhole_whole _) cc0_scratch1 cc0_scratch2) (fun _ => atExit m ρ c) := by
  unfold atEntry before Dat.owesAt Pipeline.owesWithin
  iintro ⟨⟨Hr, %f, Hb⟩, ⟨%W, %hW, HO⟩, ⟨%d0, %x, %hx, Hx⟩, ⟨%d1, %g, %hg, Ho⟩⟩
  have hx : x = block m ρ c := hx.trans (staged m ρ c d0)
  subst hx
  iapply (body_runs (block m ρ) c f g W (fun _ => atExit m ρ c)) $$ [Hr Hb HO Hx Ho]
  · isplitl [Hr]; · iexact Hr
    isplitl [Hb]; · iexact Hb
    isplitl [HO]; · iexact HO
    isplitl [Hx]; · iexact Hx
    iexact Ho
  iintro ⟨Hf, ⟨%W', HO⟩, Hx, Ho⟩
  unfold atExit Dat.owesAt Pipeline.owesWithin
  isplitl [Hf]; · iexact Hf
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Ho

set_option maxRecDepth 4000 in
theorem body_obligation (c : Dev nD) : BodyObligation (dats (F := F) m ρ 0 c) (defs₀ (F := F)) 𝒱₀ () Set.univ := fun t => by
  rw [show t = t0_0 from fin_N0 t, show ∀ Φ : Fin cfg0.W → sProp 𝕄, bigSep Finset.univ Φ = iprop(Φ (0 : Fin 2) ∗ Φ (1 : Fin 2)) from bigSep_W0,
    show ∀ Φ : Fin cfg0.W → sProp 𝕄, bigSep Finset.univ Φ = iprop(Φ (0 : Fin 2) ∗ Φ (1 : Fin 2)) from bigSep_W0]
  simp only [whole_owns]
  exact body_from_entry m ρ c

/-! ## Setting up the exchange -/

abbrev osem (j : Fin 4) : SemLoc sig := ksem (some (⟨j.val / 2, by omega⟩, ⟨j.val % 2, by omega⟩))

theorem ownSemFacts : Pipeline.OwnSemFacts cfg0.spec osem := by decide

theorem share_eq (c : Dev nD) (w : Fin cfg0.W) : (dats m ρ 0 c).share w = fullShare := by unfold Dat.share; split <;> rfl

/-- The semaphores of the exchange, and one right to bring about each event. -/
def cells : Finset (GSem nD τ sig) := Finset.univ.map ⟨kcell, kcell_injective⟩
def tokens : Finset (GSem nD τ sig × ℕ × Unit) :=
  Finset.univ.map ⟨fun x : Dev nD × Event => (kcell x, 0, ()), fun x y h => kcell_injective (congrArg (fun z : GSem nD τ sig × ℕ × Unit => z.1) h)⟩

def u₀ : UU := (initOf (Pipeline.cells cfgs cellOf_inj) (Pipeline.launchToks cfgs cellOf_inj), initOf cells tokens)

/-- What device `c` is dealt: for each of its semaphores, the schedule at its start, the owner's place, that it is in use, and
    the right to bring the event about. -/
def dealt (c : Dev nD) : sProp 𝕄 :=
  iprop((bigSep Finset.univ fun k : Event => roundState EX (sched (block m ρ)) (kcell (c, k)) 0) ∗ (bigSep Finset.univ fun k : Event => reached EX (kcell (c, k)) 0)
    ∗ (bigSep Finset.univ fun k : Event => place (c, k)) ∗ bigSep Finset.univ fun k : Event => token (c, k))

/-- What it holds once every device has handed its mate the rights that are the mate's to use. -/
def agreed (c : Dev nD) : sProp 𝕄 := iprop(∃ K, shared (block m ρ) K ∗ mine c)

theorem deal : BI.own (EX (initOf cells tokens)) ⊢ (|==> bigSep Finset.univ (dealt m ρ) : sProp 𝕄) := by
  have hc (Φ : GSem nD τ sig → sProp 𝕄) : bigSep cells Φ = bigSep Finset.univ fun c : Dev nD => bigSep Finset.univ fun k : Event => Φ (kcell (c, k)) := by
    unfold cells; rw [bigSep_map, bigSep_univ_prod]; rfl
  have ht : bigSep tokens (fun x => (dutyTok EX x.1 x.2.1 x.2.2 : sProp 𝕄)) = bigSep Finset.univ fun c : Dev nD => bigSep Finset.univ fun k : Event => token (c, k) := by
    unfold tokens; rw [bigSep_map, bigSep_univ_prod]; rfl
  refine (Rounds.fund EX (sched (block m ρ)) cells tokens).trans (BI.bupd_mono ?_)
  rw [hc, hc, hc, ht]
  unfold dealt
  simp only [bigSep_sep']
  exact BI.Entails.refl _

/-- The kernel's own semaphores are the four of its transfers; -/
theorem own_sems (c : Dev nD) : (Pipeline.ownSems0 (Ix := Unit) (Name := ℕ) (U := UU) (Lvl := ℕ) (Val := Elt F) (τ := τ) osem c : sProp 𝕄)
    = iprop(semVal (kcell (c, some (0, 0))) 0 ∗ semVal (kcell (c, some (0, 1))) 0 ∗ semVal (kcell (c, some (1, 0))) 0 ∗ semVal (kcell (c, some (1, 1))) 0) := by
  rw [Pipeline.ownSems0_eq_of_list c osem [0, 1, 2, 3] (by decide) (by decide)]; rfl

/-- the barrier is the one that outlives it. -/
theorem other_sems (c : Dev nD) : (unscopedSems0 c : sProp 𝕄) = semVal (kcell (c, none)) 0 := by
  unfold unscopedSems0
  rw [bigSep_eq_bigSepL_of_eq [SemLoc.reg barS] (by decide) (by decide)]; rfl

/-- All five counters at zero. -/
theorem counters (c : Dev nD) :
    iprop(unscopedSems0 c ∗ Pipeline.ownSems0 (Ix := Unit) (Name := ℕ) (U := UU) (Lvl := ℕ) (Val := Elt F) (τ := τ) osem c)
      = (bigSep Finset.univ fun k : Event => semVal (kcell (c, k)) 0 : sProp 𝕄) := by
  rw [own_sems, other_sems, bigSep_events]

/-- Each semaphore, its counter at zero, is put under the schedule. -/
theorem install (c : Dev nD) :
    iprop(Pipeline.ownSems0 (Ix := Unit) (Name := ℕ) (U := UU) (Lvl := ℕ) (Val := Elt F) (τ := τ) osem c ∗ unscopedSems0 c ∗ dealt m ρ c)
      ⊢ |={Set.univ}=> iprop((bigSep Finset.univ fun k : Event => iprop(∃ κ : ℕ, cellInv EX (sched (block m ρ)) κ (kcell (c, k))))
          ∗ (bigSep Finset.univ fun k : Event => reached EX (kcell (c, k)) 0) ∗ (bigSep Finset.univ fun k : Event => place (c, k))
          ∗ bigSep Finset.univ fun k : Event => token (c, k)) := by
  have alloc : iprop((bigSep Finset.univ fun k : Event => semVal (kcell (c, k)) 0)
        ∗ bigSep Finset.univ fun k : Event => roundState EX (sched (block m ρ)) (kcell (c, k)) 0)
      ⊢ (|={Set.univ}=> bigSep Finset.univ fun k : Event => iprop(∃ κ : ℕ, cellInv EX (sched (block m ρ)) κ (kcell (c, k))) : sProp 𝕄) := by
    rw [← bigSep_sep']
    exact (bigSep_mono fun k _ => (Rounds.body_intro EX (sched (block m ρ)) (kcell (c, k))).trans inv_alloc).trans (bigSep_fupd _ _)
  unfold dealt
  iintro ⟨H1, H2, Hst, Hrest⟩
  ihave Hv := (Entails.of_eq (counters (F := F) c)) $$ [H1 H2]
  · isplitl [H2] <;> iassumption
  imod alloc $$ [Hv Hst] with HI
  · isplitl [Hv] <;> iassumption
  imodintro
  isplitl [HI]; · iexact HI
  iexact Hrest

/-- Handing over the rights: `(c, k)` goes to the device that brings about event `k` of `c`. -/
def handing : Dev nD × Event ≃ Dev nD × Event where
  toFun x := (payee x.1 x.2, x.2)
  invFun x := (payee x.1 x.2, x.2)
  left_inv x := by revert x; decide
  right_inv x := by revert x; decide

theorem hand_over :
    (bigSep Finset.univ fun c : Dev nD => bigSep Finset.univ fun k : Event => (token (c, k) : sProp 𝕄))
      = bigSep Finset.univ fun c : Dev nD => bigSep Finset.univ fun k : Event => token (payee c k, k) := by
  rw [← bigSep_univ_prod (fun x : Dev nD × Event => (token x : sProp 𝕄)),
    bigSep_univ_equiv handing (fun x : Dev nD × Event => (token x : sProp 𝕄)), bigSep_univ_prod]
  rfl

/-- What is known to all may be told to each. -/
theorem tell_each {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

/-- The exchange agreed on by all devices. -/
theorem agree :
    (bigSep Finset.univ fun c => iprop(Pipeline.ownSems0 (Ix := Unit) (Name := ℕ) (U := UU) (Lvl := ℕ) (Val := Elt F) (τ := τ) osem c ∗ unscopedSems0 c ∗ dealt m ρ c) : sProp 𝕄)
      ⊢ |={Set.univ}=> bigSep Finset.univ (agreed m ρ) := by
  suffices h : (bigSep Finset.univ fun c : Dev nD => iprop((bigSep Finset.univ fun k : Event => iprop(∃ κ : ℕ, cellInv EX (sched (block m ρ)) κ (kcell (c, k))))
      ∗ (bigSep Finset.univ fun k : Event => reached EX (kcell (c, k)) 0) ∗ (bigSep Finset.univ fun k : Event => place (c, k))
      ∗ bigSep Finset.univ fun k : Event => token (c, k)) : sProp 𝕄) ⊢ bigSep Finset.univ (agreed m ρ) from
    ((bigSep_mono fun c _ => install m ρ c).trans (bigSep_fupd _ _)).trans (BI.fupd_mono h)
  rw [bigSep_sep', bigSep_sep', bigSep_sep', hand_over,
    ← bigSep_univ_prod (fun x : Dev nD × Event => iprop(∃ κ : ℕ, cellInv EX (sched (block m ρ)) κ (kcell x))),
    ← bigSep_univ_prod (fun x : Dev nD × Event => (reached EX (kcell x) 0 : sProp 𝕄)), ← bigSep_sep']
  iintro ⟨HI, #HR, Hmine⟩
  ihave HK := (BI.bigSep_exists_pi Finset.univ (fun (x : Dev nD × Event) (κ : ℕ) => (cellInv EX (sched (block m ρ)) κ (kcell x) : sProp 𝕄))) $$ HI
  icases HK with ⟨%K, #HI⟩
  iapply (tell_each (R := shared (block m ρ) K) (Φ := mine) (Ψ := agreed m ρ) fun c => by
    unfold agreed
    iintro ⟨HS, HM⟩
    iexists K
    isplitl [HS] <;> iassumption)
  isplitr
  · unfold shared
    isplitr; · iexact HI
    iexact HR
  · unfold mine; iexact Hmine

/-! ## The sides of the launch -/

/-- Each event of a device is owed by its mate. -/
theorem credits (c : Dev nD) :
    (Pipeline.launchCred owedAll c : sProp 𝕄)
      ⊢ iprop(cred (tallyAt (kcell (c, none)) () 1) ∗ cred (tallyAt (kcell (c, some (1, 0))) () N) ∗ cred (tallyAt (kcell (c, some (1, 1))) () N)) := by
  have each (k : Event) (n : ℕ) : (Pipeline.launchCred (fun d => tallyAt (kcell (mate d, k)) () n) c : sProp 𝕄) ⊢ cred (tallyAt (kcell (c, k)) () n) :=
    Pipeline.launchCred_tallyAt (ksem k) mate mate mate_mate mate_mate () n c
  rw [show (owedAll : Dev nD → CellTallies nD τ sig Unit)
      = fun d => (fun d => (fun d => tallyAt (kcell (mate d, some (1, 1))) () N) d + (fun d => tallyAt (kcell (mate d, some (1, 0))) () N) d) d
        + (fun d => tallyAt (kcell (mate d, none)) () 1) d from rfl, Pipeline.launchCred_add, Pipeline.launchCred_add]
  iintro ⟨⟨H1, H0⟩, HB⟩
  isplitl [HB]; · iapply (each none 1); iexact HB
  isplitl [H0]; · iapply (each (some (1, 0)) N); iexact H0
  iapply (each (some (1, 1)) N); iexact H1

theorem start_intro (c : Dev nD) :
    iprop(Pipeline.unscopedRestP Pipeline.Prefetch.none cfg0.spec c (fun b => m ((c : Thread nD τ).loc b)) ∗ levAts L lv
        ∗ Pipeline.launchCred owedAll c ∗ prngReg c (ρ c) ∗ agreed m ρ c)
      ⊢ |={Set.univ}=> iprop(ready (block m ρ) c ∗ emp) := by
  iintro ⟨-, Hl, Hc, -, HG⟩
  ihave Hc := (credits (F := F) c) $$ Hc
  imodintro
  unfold ready agreed
  isplitl
  · isplitl [HG]; · iexact HG
    isplitl [Hc] <;> iassumption
  · iempintro

theorem entry (c : Dev nD) :
    iprop(ready (block m ρ) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m ρ c from rfl, scopedRest0_eq]
  unfold before
  iintro ⟨Hs, -, Hb⟩
  isplitl [Hs] <;> iassumption

theorem exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = finished (block m ρ) c from rfl, scopedRest0_eq]
  unfold finished
  rw [← counters]
  iintro ⟨Hb, Hu, Ho⟩
  isplitl [Hu]; · iexact Hu
  isplitl [Ho]; · iexact Ho
  iexists _; iexact Hb

theorem waits (c : Dev nD) : (levAts L lv : sProp 𝕄) ⊢ Pipeline.cellsWaits cfgs (dats m ρ) () 0 c :=
  Pipeline.cellsWaits_intro cfgs (dats m ρ) () 0 c fun w s t =>
    may_stage c _ (by fin_cases w <;> fin_cases s <;> decide) _ (by
      rcases t with ⟨_ | _, ht⟩
      · exact Or.inl rfl
      · exact Or.inr rfl)

/-! ## The run -/

/-- Device `c`'s arrays at the end. -/
def endOf (c : Dev nD) (w : Fin cfg0.W) : Buf (Elt F) ((cfg0.win w).arr.view.loc (c : Thread nD τ)) := (dats m ρ 0 c).arrAt w cfg0.N

def ends (r : PUnit × MemSt nD τ sig (Elt F)) : Prop :=
  ∀ c : Dev nD, ∀ w : Fin cfg0.W, r.2.mem ((cfg0.win w).arr.view.loc (c : Thread nD τ)) = endOf m ρ c w

set_option maxRecDepth 8000 in
/-- From any memory with all counters at zero, every fair run of the four devices ends, each array as computed and every
    counter at zero again. -/
theorem run_main : θ_run defs (onTc (τ := τ) (main (F := F))) (s₀ m ρ) (fun r => ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := owedAll) (howed₀ := fun _ => rfl) (howedN := fun _ => rfl)
    (L := L) (lv := lv) (hL := L_of_ne) (hwaits := waits m ρ)
    (G := dealt m ρ) (G' := agreed m ρ) (u₀ := u₀)
    (hu₀ := by
      unfold u₀
      iintro Hu
      ihave H := (ownU_pair _ _) $$ Hu
      icases H with ⟨HP, HX⟩
      imod (deal m ρ) $$ HX with HG
      imodintro
      isplitl [HP] <;> iassumption)
    (hglob := agree m ρ)
    (hA := fun _ _ => rfl) (hpf := fun _ k => k.elim0)
    (X := ready (block m ρ)) (Y := fun c => unscopedSems0 c) (Z := fun _ => iprop(emp))
    (hX := start_intro m ρ) (hin := entry m ρ) (hout := exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input array is unchanged. -/
theorem endOf_in (c : Dev nD) : endOf m ρ c (0 : Fin 2) = m ((c : Thread nD τ).loc main_arg0) :=
  (dats (F := F) m ρ 0 c).arrAt_in (0 : Fin 2) rfl _

/-- The run, with the arrays named: the result array as computed, the input as it was. -/
theorem run_arrays : θ_run defs (onTc (τ := τ) (main (F := F))) (s₀ m ρ) (fun r =>
    ((∀ c : Dev nD, r.2.mem ((c : Thread nD τ).loc main_v1) = endOf m ρ c (1 : Fin 2)) ∧ ∀ c : Dev nD, r.2.mem ((c : Thread nD τ).loc main_arg0) = m ((c : Thread nD τ).loc main_arg0))
      ∧ r.2.sem = fun _ => 0) :=
  (θ_run defs _ _).mono (fun r h => ⟨⟨fun c => h.1 c (1 : Fin 2), fun c => (h.1 c (0 : Fin 2)).trans (endOf_in m ρ c)⟩, h.2⟩) (run_main m ρ)

end Launch

end Cert.Mean

end
-- ==== Proof.Value.lean ====
/-
# `01_k` — the kernel's result as sums over rows

At the exact values a device's result, column by column, is the sum of its own 2048 rows plus the sum of its mate's, times
`1/4096`.
-/
module

public import proofs.«01_k».proof.Proof.Launch
public import proofs.«01_k».proof.Proof.Gen.KernelIdeal.Points
public import Idealize.ShloMosaic.Lib.Pointwise
public import Idealize.ShloMosaic.Lib.IdealHost
public import Idealize.ShloMosaic.Lib.Pipeline.Value
public import Idealize.ShloMosaic.PureOps.Ideal.Laws

@[expose] public section

noncomputable section

namespace Cert.Mean

open Cert.KernelIdeal Cert.KernelIdeal.Gen
open Idealize.ShloMosaic Idealize.ShloMosaic.TcCoe
open Idealize.SL Idealize.SL.Sem
open scoped BigOperators

/-! ## The arrays, from the staged blocks -/

section Arrays
variable {F : FTy → Type} [FloatOps F]
variable (m : (ℓ : Loc nD τ sig) → Buf (Elt F) ℓ) (ρ : Dev nD → PrngReg)

/-- The one block of the input is the whole array. -/
theorem block_eq (c : Dev nD) : block m ρ c = m ((c : Thread nD τ).loc main_arg0) := by
  funext i
  refine congrArg (m ((c : Thread nD τ).loc main_arg0)) ?_
  funext a
  exact Fin.ext (Pipeline.Window.rect_emb_val_of_index_zero win0_0 (0 : Fin 1) a rfl i)

/-- The one block of the result is the whole array, so the array ends at what the body left. -/
theorem endOf_out (c : Dev nD) : endOf m ρ c (1 : Fin 2) = outAt (block m ρ) c := by
  have whole : ∀ i, (win0_1.rect (0 : Fin 1)).emb i = i := fun i =>
    funext fun a => Fin.ext (Pipeline.Window.rect_emb_val_of_index_zero win0_1 (0 : Fin 1) a rfl i)
  refine (dats m ρ 0 c).arrAt_eq_of_cover (1 : Fin 2) (outAt (block m ρ) c) (fun t _ => ?_) fun i => ⟨t0_0, flush0_1 t0_0, ?_⟩
  · obtain rfl : t = t0_0 := Subsingleton.elim (α := Fin 1) _ _
    funext i
    exact congrArg (outAt (block m ρ) c) (whole i).symm
  · exact Finset.mem_map.mpr ⟨i, Finset.mem_univ _, whole i⟩

end Arrays

/-! ## The column sums -/

/-- The sum of one column of a device's block. -/
def colSum (x : XBlock Ideal) (q : Fin 1024) : EReal := ∑ r : Fin 2048, x (ix2 r q)

/-- Adding one group of rows to the running sums. -/
theorem add_group (acc : FVec Ideal S1x512 .f32) (v : Vec Ideal S256x512 .f32) (q : Fin 512) :
    addf acc (shapeCast S1x512 (multiReduction .add [0] S512 (shapeCast S256x512 v shapeCasts_S256x512_S256x512) 0x00000000#32
        reduces_S256x512_S512 (.inl rfl) rfl) shapeCasts_S512_S1x512) (ix2 0 q)
      = acc (ix2 0 q) + ∑ r : Fin 256, v (ix2 r q) := by
  pointwise []

/-- A load of one group of rows, element by element. -/
theorem rows_apply (x : XBlock Ideal) (h : Fin 2) (k : Fin 8) (r : Fin 256) (q : Fin 512) :
    rows x h k (ix2 r q) = x (ix2 ⟨k.val * 256 + r.val, by omega⟩ ⟨512 * h.val + q.val, by omega⟩) := by
  refine congrArg x ?_
  funext a
  match a with
  | ⟨0, _⟩ => exact Fin.ext (show 256 * k.val + 1 * r.val = k.val * 256 + r.val by omega)
  | ⟨1, _⟩ => exact Fin.ext (show 512 * h.val + 1 * q.val = 512 * h.val + q.val by omega)

/-- The sum of one column of a group of rows. -/
def groupSum (v : Vec Ideal S256x512 .f32) (q : Fin 512) : EReal := ∑ r : Fin 256, v (ix2 r q)

/-- The running sums after the first four groups, -/
theorem first_four (a b c d : Vec Ideal S256x512 .f32) (q : Fin 512) :
    k0_pay2 a b c d (ix2 0 q) = groupSum a q + groupSum b q + groupSum c q + groupSum d q := by
  refine (add_group _ d q).trans (congrArg (· + groupSum d q) ?_)
  refine (add_group _ c q).trans (congrArg (· + groupSum c q) ?_)
  refine (add_group _ b q).trans (congrArg (· + groupSum b q) ?_)
  refine (add_group _ a q).trans ?_
  exact (congrArg (· + groupSum a q) Ideal.ofBits_zero_f32).trans (zero_add _)

/-- and after the last four, as they are stored. -/
theorem last_four (acc : FVec Ideal S1x512 .f32) (a b c d : Vec Ideal S256x512 .f32) (q : Fin 512) :
    k0_pay3 acc a b c d (ix3 0 0 q) = acc (ix2 0 q) + groupSum a q + groupSum b q + groupSum c q + groupSum d q := by
  have cast : ∀ v : FVec Ideal S1x512 .f32, shapeCast S1x1x512 v shapeCasts_S1x512_S1x1x512 (ix3 0 0 q) = v (ix2 0 q) := by
    intro v
    pointwise []
  unfold k0_pay3
  refine (cast _).trans ?_
  refine (add_group _ d q).trans (congrArg (· + groupSum d q) ?_)
  refine (add_group _ c q).trans (congrArg (· + groupSum c q) ?_)
  refine (add_group _ b q).trans (congrArg (· + groupSum b q) ?_)
  exact add_group acc a q

/-- The eight groups together. -/
theorem colSums_groups (x : XBlock Ideal) (h : Fin 2) (q : Fin 512) :
    colSums x h (ix3 0 0 q) = ∑ k : Fin 8, groupSum (rows x h k) q := by
  rw [Fin.sum_univ_eight]
  refine (last_four _ _ _ _ _ q).trans ?_
  rw [first_four]

/-- So a half's sums are the sums of its columns. -/
theorem colSums_apply (x : XBlock Ideal) (h : Fin 2) (q : Fin 512) :
    colSums x h (ix3 0 0 q) = colSum x ⟨512 * h.val + q.val, by omega⟩ := by
  rw [colSums_groups, colSum, Fin.sum_univ_tiles 8 256 rfl]
  exact Finset.sum_congr rfl fun k _ => Finset.sum_congr rfl fun r _ => rows_apply x h k r q

/-- A slot of the buffer at the end, as the kernel loads it: the column sums of one of the two blocks. -/
theorem slot_apply (X : Dev nD → XBlock Ideal) (c : Dev nD) (s : Fin 2) (q : Fin 1024) :
    slot (bufAt X c) s (ix3 0 0 q) = colSum (if s.val = 0 then X c else X (mate c)) q := by
  have e : slot (bufAt X c) s (ix3 0 0 q) = slots (X c) (X (mate c)) (ix3 s 0 q) := by
    refine congrArg (slots (X c) (X (mate c))) ?_
    funext a
    match a with
    | ⟨0, _⟩ => exact Fin.ext (show s.val + 1 * 0 = s.val by omega)
    | ⟨1, _⟩ => rfl
    | ⟨2, _⟩ => exact Fin.ext (show 0 + 1 * q.val = q.val by omega)
  rw [e]
  have hq : col (q.val % 512) (Nat.mod_lt _ (by decide)) = ix3 0 0 (⟨q.val % 512, Nat.mod_lt _ (by decide)⟩ : Fin 512) := col_eq _ rfl
  show colSums (if s.val = 0 then X c else X (mate c)) ⟨q.val / 512, _⟩ (col (q.val % 512) _) = _
  rw [hq, colSums_apply]
  exact congrArg _ (Fin.ext (show 512 * (q.val / 512) + q.val % 512 = q.val by omega))

/-! ## The result -/

/-- The f32 patterns of `1/4096` and of `4096`. -/
theorem ofBits_inv_rows : Ideal.ofBits .f32 0x39800000#32 = (((1 : ℝ) / 4096 : ℝ) : EReal) := by
  simp [Ideal.ofBits, Ideal.ieee, -EReal.coe_mul]; norm_num
theorem ofBits_rows : Ideal.ofBits .f32 0x45800000#32 = ((4096 : ℝ) : EReal) := by
  simp [Ideal.ofBits, Ideal.ieee, -EReal.coe_mul]; norm_num

/-- Multiplying by `1/4096` is dividing by `4096`, at the infinities too. -/
theorem mul_inv_rows (z : EReal) : z * Ideal.ofBits .f32 0x39800000#32 = Ideal.div z (Ideal.ofBits .f32 0x45800000#32) := by
  rw [ofBits_inv_rows, ofBits_rows, Ideal.div, if_neg (by norm_num)]
  refine congrArg (z * ·) ?_
  rw [← EReal.coe_inv, one_div]

/-- The result of device `c`, element by element. -/
theorem outAt_apply (X : Dev nD → XBlock Ideal) (c : Dev nD) (q : Fin 1024) :
    outAt X c (ix2 0 q) = Ideal.div (colSum (X c) q + colSum (X (mate c)) q) (Ideal.ofBits .f32 0x45800000#32) := by
  rw [← mul_inv_rows]
  have e : ∀ v : Vec Ideal S1x1x1024 .f32, shapeCast S1x1024 v shapeCasts_S1x1x1024_S1x1024 (ix2 0 q) = v (ix3 0 0 q) := by
    intro v
    pointwise []
  show (shapeCast S1x1024 (slot (bufAt X c) 0) _ (ix2 0 q) + shapeCast S1x1024 (slot (bufAt X c) 1) _ (ix2 0 q))
      * Ideal.ofBits .f32 0x39800000#32 = _
  rw [e, e, slot_apply, slot_apply]
  rfl

end Cert.Mean

end
-- ==== Proof.Agree.lean ====
/-
# `01_k` — the kernel's result is its part of the reference's

The reference divides each column's sum over all 4096 rows by 4096. A device and its mate hold the two halves of those rows
for the same 1024 columns, so the two sums added are the whole column's.
-/
module

public import proofs.«01_k».proof.Defs
public import proofs.«01_k».proof.Proof.Value
public import proofs.«01_k».proof.Proof.Gen.ReferenceIdeal.Run
public import proofs.«01_k».proof.Proof.Gen.Kernel
public import Idealize.ShloMosaic.Lib.Layout
public import Idealize.ShloMosaic.Lib.Quiescent

@[expose] public section

noncomputable section

namespace Cert.Mean

open Cert.KernelIdeal Cert.KernelIdeal.Gen
open Idealize.ShloMosaic Idealize.ShloMosaic.TcCoe
open Idealize.SL Idealize.SL.Sem
open scoped BigOperators

abbrev Whole : Type := FVec Ideal ⟨2, ![4096, 2048]⟩ .f32

/-- The part of the whole array that device `c` holds. -/
abbrev part (x : Whole) (c : Dev nD) : XBlock Ideal :=
  Layout.blockN ⟨2, ![2048, 1024]⟩ ⟨2, ![4096, 2048]⟩ (Layout.meshBlock [2, 2] ![[0], [1]] c) x

/-- The column of the whole array that column `q` of device `c` is. -/
def wholeCol (c : Dev nD) (q : Fin 1024) : Fin 2048 := ⟨c.val % 2 * 1024 + q.val, by omega⟩

/-- Which block of the whole array a device holds, axis by axis, -/
theorem part_row (c : Fin 4) : ((Layout.meshBlock [2, 2] ![[0], [1]] c : (b : Fin 2) → _) (0 : Fin 2)).val = c.val / 2 := by revert c; decide
theorem part_col (c : Fin 4) : ((Layout.meshBlock [2, 2] ![[0], [1]] c : (b : Fin 2) → _) (1 : Fin 2)).val = c.val % 2 := by revert c; decide
/-- and which block of the result. -/
theorem result_row (c : Fin 4) : ((Layout.meshBlock [2, 2] ![[], [1]] c : (b : Fin 2) → _) (0 : Fin 2)).val = 0 := by revert c; decide
theorem result_col (c : Fin 4) : ((Layout.meshBlock [2, 2] ![[], [1]] c : (b : Fin 2) → _) (1 : Fin 2)).val = c.val % 2 := by revert c; decide

/-- A device's rows start at 0 or at 2048. -/
theorem part_apply (x : Whole) (c : Dev nD) (r : Fin 2048) (q : Fin 1024) :
    part x c (ix2 r q) = x (ix2 ⟨c.val / 2 * 2048 + r.val, by have : c.val < 4 := c.isLt; omega⟩ (wholeCol c q)) := by
  refine congrArg x ?_
  funext a
  refine Fin.ext ((Layout.TilesN.idx_val _ _ _ a).trans ?_)
  match a with
  | ⟨0, _⟩ => exact congrArg (fun k => k * 2048 + r.val) (part_row c)
  | ⟨1, _⟩ => exact congrArg (fun k => k * 1024 + q.val) (part_col c)

/-- The sum of one column of the whole array. -/
def wholeSum (x : Whole) (j : Fin 2048) : EReal := ∑ r : Fin 4096, x (ix2 r j)

/-- A device's column sum and its mate's are the whole column's. -/
theorem sums_together (x : Whole) (c : Dev nD) (q : Fin 1024) :
    colSum (part x c) q + colSum (part x (mate c)) q = wholeSum x (wholeCol c q) := by
  have upper_lower : ∀ c : Dev nD, c.val < 2 → colSum (part x c) q + colSum (part x (mate c)) q = wholeSum x (wholeCol c q) := by
    intro c hc
    have hm : (mate c).val = c.val + 2 := show (c.val + 2) % 4 = c.val + 2 by omega
    rw [wholeSum, Fin.sum_univ_two_halves 2048 2048 rfl]
    refine congrArg₂ (· + ·) (Finset.sum_congr rfl fun r _ => ?_) (Finset.sum_congr rfl fun r _ => ?_)
    · rw [part_apply]
      exact congrArg (fun k => x (ix2 k _)) (Fin.ext (show c.val / 2 * 2048 + r.val = r.val by omega))
    · rw [part_apply]
      exact congrArg₂ (fun k l => x (ix2 k l)) (Fin.ext (show (mate c).val / 2 * 2048 + r.val = 2048 + r.val by omega))
        (Fin.ext (show (mate c).val % 2 * 1024 + q.val = c.val % 2 * 1024 + q.val by omega))
  by_cases hc : c.val < 2
  · exact upper_lower c hc
  · have hlt : c.val < 4 := c.isLt
    have hm : (mate c).val = c.val - 2 := show (c.val + 2) % 4 = c.val - 2 by omega
    have h := upper_lower (mate c) (by omega)
    rw [mate_mate, add_comm] at h
    refine h.trans (congrArg (wholeSum x) (Fin.ext ?_))
    show (mate c).val % 2 * 1024 + q.val = c.val % 2 * 1024 + q.val
    omega

/-! ## The reference -/

open Cert.ReferenceIdeal Cert.ReferenceIdeal.Gen in
/-- The reference's result, as its operations compute it. -/
abbrev refMean (x : Whole) : FVec Ideal ⟨2, ![1, 2048]⟩ .f32 :=
  Host.divf (broadcastInDim Cert.ReferenceIdeal.S1x2048 ![1] bcast_S2048_S1x2048_1
      (Host.reduceAdd x (constant Cert.ReferenceIdeal.S_ .f32 0x00000000#32) reducesTo_S4096x2048_S2048_d0 h_S_))
    (broadcastInDim Cert.ReferenceIdeal.S1x2048 ![] bcast_S_S1x2048 (constant Cert.ReferenceIdeal.S_ .f32 0x45800000#32))

/-- Element by element it is the column's sum over 4096. -/
theorem refMean_apply (x : Whole) (j : Fin 2048) :
    refMean x (ix2 0 j) = Ideal.div (wholeSum x j) (Ideal.ofBits .f32 0x45800000#32) := by
  pointwise [wholeSum]

/-- Device `c`'s result is its part of the reference's. -/
theorem result_part (x : Whole) (c : Dev nD) :
    outAt (part x) c = Layout.blockN ⟨2, ![1, 1024]⟩ ⟨2, ![1, 2048]⟩ (Layout.meshBlock [2, 2] ![[], [1]] c) (refMean x) := by
  funext i
  obtain ⟨q, rfl⟩ : ∃ q : Fin 1024, i = ix2 0 q := ⟨i 1, by
    funext a
    match a with
    | ⟨0, _⟩ => exact Subsingleton.elim (α := Fin 1) _ _
    | ⟨1, _⟩ => rfl⟩
  rw [outAt_apply, sums_together, ← refMean_apply]
  refine congrArg (refMean x) ?_
  funext a
  refine Fin.ext (Eq.trans ?_ (Layout.TilesN.idx_val _ _ _ a).symm)
  match a with
  | ⟨0, _⟩ => exact congrArg (fun k => k * 1 + 0) (result_row c).symm
  | ⟨1, _⟩ => exact congrArg (fun k => k * 1024 + q.val) (result_col c).symm

/-! ## The claims -/

section Quiescent
variable {F : FTy → Type} [FloatOps F]

/-- Whatever the values, the kernel runs, leaves its argument unchanged and every counter at zero. -/
theorem quiescent (m : (ℓ : Loc nD τ sig) → Buf (Elt F) ℓ) (ρ : Dev nD → PrngReg) :
    θ_run defs (onTc (τ := τ) (main (F := F))) (s₀ m ρ) (fun r =>
      (∀ c : Dev nD, r.2.mem ((c : Thread nD τ).loc main_arg0) = m ((c : Thread nD τ).loc main_arg0)) ∧ r.2.sem = fun _ => 0) :=
  (θ_run defs _ _).mono (fun _ h => ⟨h.1.2, h.2⟩) (run_arrays m ρ)

end Quiescent

/-- The two printed programs are the same text; their tables of bodies agree label by label, -/
theorem bodies_same : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl
  | ⟨_ + 1, h⟩, _ => exact absurd h (Nat.not_lt.2 (Nat.le_add_left _ _))

/-- and so do the tables with their pipelines. -/
theorem tables_same : Cert.Kernel.defs (F := Bits) = Cert.KernelIdeal.defs (F := Bits) :=
  congrArg (Pipeline.defs (Cert.KernelIdeal.pcfgs (F := Bits))) bodies_same

/-- So the kernel does this as printed -/
theorem kernel_quiescent : Cert.quiescent_Kernel (hKernel := Cert.Kernel.Gen.facts) := by
  intro m ρ _
  rw [tables_same]
  exact quiescent (F := Bits) m ρ

/-- and at the exact values. -/
theorem exact_quiescent : Cert.quiescent_KernelIdeal := fun m ρ _ => quiescent (F := Ideal) m ρ

/-- The reference runs and has no semaphore. -/
theorem reference_quiescent : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- At the exact values each device's result is its part of the reference's. -/
theorem results_agree : Cert.algebraic_KernelIdeal_ReferenceIdeal := by
  intro m ρ m' ρ' _ hm
  refine ⟨refMean (m' (((0 : Dev Cert.ReferenceIdeal.nD).tc : Thread Cert.ReferenceIdeal.nD Cert.ReferenceIdeal.τ).loc
    Cert.ReferenceIdeal.main_arg0)), ?_, ?_⟩
  · refine (θ_run Cert.KernelIdeal.defs _ _).mono (fun r h c => ⟨(h.1.1 c).trans ?_, h.1.2 c⟩) (run_arrays (F := Ideal) m ρ)
    rw [endOf_out, ← result_part]
    exact congrArg (fun X : Dev nD → XBlock Ideal => outAt X c) (funext fun d => (block_eq m ρ d).trans (hm d))
  · exact (θ_run Cert.ReferenceIdeal.defs _ _).mono (fun r h => h 0) (Cert.ReferenceIdeal.Value.run (F := Ideal) m' ρ')

end Cert.Mean

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Agree
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Mean.kernel_quiescent, Cert.Mean.exact_quiescent, Cert.Mean.reference_quiescent, trivial, Cert.Mean.results_agree⟩

end Cert.Proof

end
